-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x1280 : Shape := ⟨3, ![8, 256, 1280]⟩
abbrev S1280x1408 : Shape := ⟨2, ![1280, 1408]⟩
abbrev S20x2816 : Shape := ⟨2, ![20, 2816]⟩
abbrev S1280x16 : Shape := ⟨2, ![1280, 16]⟩
abbrev S16x2816 : Shape := ⟨2, ![16, 2816]⟩
abbrev S2048x1280 : Shape := ⟨2, ![2048, 1280]⟩
abbrev S2048x2816 : Shape := ⟨2, ![2048, 2816]⟩
abbrev S1280x128 : Shape := ⟨2, ![1280, 128]⟩
abbrev S20x256 : Shape := ⟨2, ![20, 256]⟩
abbrev S16x256 : Shape := ⟨2, ![16, 256]⟩
abbrev S2048x256 : Shape := ⟨2, ![2048, 256]⟩
abbrev S1280x256 : Shape := ⟨2, ![1280, 256]⟩
abbrev S2048x16 : Shape := ⟨2, ![2048, 16]⟩
abbrev S1x256 : Shape := ⟨2, ![1, 256]⟩
abbrev S64x128 : Shape := ⟨2, ![64, 128]⟩
abbrev S16x128 : Shape := ⟨2, ![16, 128]⟩
abbrev S16x128x1 : Shape := ⟨3, ![16, 128, 1]⟩
abbrev S1x128 : Shape := ⟨2, ![1, 128]⟩
abbrev S64x256 : Shape := ⟨2, ![64, 256]⟩

abbrev nBuf : Space → Nat
  | .hbm => 7
  | .vmem => 12
  | .smem => 0
  | _ => 0

abbrev bufTy : (tb : Table) → Fin (tcTables nBuf tb) → BufTy
  | .hbm, ⟨0, _⟩ => ⟨S8x256x1280, .bf16⟩
  | .hbm, ⟨1, _⟩ => ⟨S1280x1408, .i8⟩
  | .hbm, ⟨2, _⟩ => ⟨S20x2816, .f32⟩
  | .hbm, ⟨3, _⟩ => ⟨S1280x16, .bf16⟩
  | .hbm, ⟨4, _⟩ => ⟨S16x2816, .bf16⟩
  | .hbm, ⟨5, _⟩ => ⟨S2048x1280, .bf16⟩
  | .hbm, ⟨6, _⟩ => ⟨S2048x2816, .bf16⟩
  | .local _ .vmem, ⟨0, _⟩ => ⟨S2048x1280, .bf16⟩
  | .local _ .vmem, ⟨1, _⟩ => ⟨S1280x128, .i8⟩
  | .local _ .vmem, ⟨2, _⟩ => ⟨S1280x128, .i8⟩
  | .local _ .vmem, ⟨3, _⟩ => ⟨S20x256, .f32⟩
  | .local _ .vmem, ⟨4, _⟩ => ⟨S20x256, .f32⟩
  | .local _ .vmem, ⟨5, _⟩ => ⟨S1280x16, .bf16⟩
  | .local _ .vmem, ⟨6, _⟩ => ⟨S16x256, .bf16⟩
  | .local _ .vmem, ⟨7, _⟩ => ⟨S16x256, .bf16⟩
  | .local _ .vmem, ⟨8, _⟩ => ⟨S2048x256, .bf16⟩
  | .local _ .vmem, ⟨9, _⟩ => ⟨S2048x256, .bf16⟩
  | .local _ .vmem, ⟨10, _⟩ => ⟨S1280x256, .bf16⟩
  | .local _ .vmem, ⟨11, _⟩ => ⟨S2048x16, .bf16⟩
  | _, _ => ⟨S8x256x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1280x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x256x1280 : Shape := ⟨3, ![8, 256, 1280]⟩
abbrev S1280x1408 : Shape := ⟨2, ![1280, 1408]⟩
abbrev S20x2816 : Shape := ⟨2, ![20, 2816]⟩
abbrev S1280x16 : Shape := ⟨2, ![1280, 16]⟩
abbrev S16x2816 : Shape := ⟨2, ![16, 2816]⟩
abbrev S_ : Shape := ⟨0, ![]⟩
abbrev S20x1408x2 : Shape := ⟨3, ![20, 1408, 2]⟩
abbrev S20x1408x1 : Shape := ⟨3, ![20, 1408, 1]⟩
abbrev S20x1408 : Shape := ⟨2, ![20, 1408]⟩
abbrev S20x64x1408 : Shape := ⟨3, ![20, 64, 1408]⟩
abbrev S20x1x1408 : Shape := ⟨3, ![20, 1, 1408]⟩
abbrev S8x256x1408 : Shape := ⟨3, ![8, 256, 1408]⟩
abbrev S8x256x1408x1 : Shape := ⟨4, ![8, 256, 1408, 1]⟩
abbrev S8x256x1408x2 : Shape := ⟨4, ![8, 256, 1408, 2]⟩
abbrev S8x256x2816 : Shape := ⟨3, ![8, 256, 2816]⟩
abbrev S8x256x16 : Shape := ⟨3, ![8, 256, 16]⟩
abbrev S2048x2816 : Shape := ⟨2, ![2048, 2816]⟩

abbrev nBuf : Space → Nat
  | .hbm => 185
  | .vmem => 0
  | .smem => 0
  | _ => 0

abbrev hbmTy0_0 (i : Nat) : BufTy := match i % 128 with
  | 0 => ⟨S8x256x1280, .bf16⟩
  | 1 => ⟨S1280x1408, .i8⟩
  | 2 => ⟨S20x2816, .f32⟩
  | 3 => ⟨S1280x16, .bf16⟩
  | 4 => ⟨S16x2816, .bf16⟩
  | 5 => ⟨S1280x1408, .i32⟩
  | 6 => ⟨S_, .i32⟩
  | 7 => ⟨S1280x1408, .i32⟩
  | 8 => ⟨S1280x1408, .i32⟩
  | 9 => ⟨S_, .i32⟩
  | 10 => ⟨S1280x1408, .i32⟩
  | 11 => ⟨S1280x1408, .i32⟩
  | 12 => ⟨S20x2816, .bf16⟩
  | 13 => ⟨S20x1408x2, .bf16⟩
  | 14 => ⟨S20x1408x1, .bf16⟩
  | 15 => ⟨S20x1408, .bf16⟩
  | 16 => ⟨S_, .i32⟩
  | 17 => ⟨S1280x1408, .i32⟩
  | 18 => ⟨S1280x1408, .i32⟩
  | 19 => ⟨S_, .i32⟩
  | 20 => ⟨S1280x1408, .i32⟩
  | 21 => ⟨S1280x1408, .i1⟩
  | 22 => ⟨S_, .i32⟩
  | 23 => ⟨S1280x1408, .i32⟩
  | 24 => ⟨S1280x1408, .i32⟩
  | 25 => ⟨S_, .i32⟩
  | 26 => ⟨S1280x1408, .i32⟩
  | 27 => ⟨S1280x1408, .i1⟩
  | 28 => ⟨S_, .i32⟩
  | 29 => ⟨S1280x1408, .i32⟩
  | 30 => ⟨S1280x1408, .i32⟩
  | 31 => ⟨S_, .i32⟩
  | 32 => ⟨S1280x1408, .i32⟩
  | 33 => ⟨S1280x1408, .i1⟩
  | 34 => ⟨S_, .i32⟩
  | 35 => ⟨S1280x1408, .i32⟩
  | 36 => ⟨S1280x1408, .i32⟩
  | 37 => ⟨S_, .i32⟩
  | 38 => ⟨S1280x1408, .i32⟩
  | 39 => ⟨S1280x1408, .i1⟩
  | 40 => ⟨S_, .bf16⟩
  | 41 => ⟨S_, .bf16⟩
  | 42 => ⟨S1280x1408, .bf16⟩
  | 43 => ⟨S1280x1408, .bf16⟩
  | 44 => ⟨S1280x1408, .bf16⟩
  | 45 => ⟨S_, .bf16⟩
  | 46 => ⟨S_, .bf16⟩
  | 47 => ⟨S1280x1408, .bf16⟩
  | 48 => ⟨S1280x1408, .bf16⟩
  | 49 => ⟨S1280x1408, .bf16⟩
  | 50 => ⟨S_, .bf16⟩
  | 51 => ⟨S_, .bf16⟩
  | 52 => ⟨S1280x1408, .bf16⟩
  | 53 => ⟨S1280x1408, .bf16⟩
  | 54 => ⟨S1280x1408, .bf16⟩
  | 55 => ⟨S_, .bf16⟩
  | 56 => ⟨S_, .bf16⟩
  | 57 => ⟨S1280x1408, .bf16⟩
  | 58 => ⟨S1280x1408, .bf16⟩
  | 59 => ⟨S1280x1408, .bf16⟩
  | 60 => ⟨S_, .bf16⟩
  | 61 => ⟨S_, .bf16⟩
  | 62 => ⟨S1280x1408, .bf16⟩
  | 63 => ⟨S1280x1408, .bf16⟩
  | 64 => ⟨S1280x1408, .bf16⟩
  | 65 => ⟨S_, .bf16⟩
  | 66 => ⟨S_, .bf16⟩
  | 67 => ⟨S1280x1408, .bf16⟩
  | 68 => ⟨S1280x1408, .bf16⟩
  | 69 => ⟨S1280x1408, .bf16⟩
  | 70 => ⟨S_, .bf16⟩
  | 71 => ⟨S_, .bf16⟩
  | 72 => ⟨S1280x1408, .bf16⟩
  | 73 => ⟨S1280x1408, .bf16⟩
  | 74 => ⟨S1280x1408, .bf16⟩
  | 75 => ⟨S_, .bf16⟩
  | 76 => ⟨S_, .bf16⟩
  | 77 => ⟨S1280x1408, .bf16⟩
  | 78 => ⟨S1280x1408, .bf16⟩
  | 79 => ⟨S1280x1408, .bf16⟩
  | 80 => ⟨S1280x1408, .bf16⟩
  | 81 => ⟨S1280x1408, .bf16⟩
  | 82 => ⟨S1280x1408, .bf16⟩
  | 83 => ⟨S1280x1408, .bf16⟩
  | 84 => ⟨S1280x1408, .bf16⟩
  | 85 => ⟨S1280x1408, .bf16⟩
  | 86 => ⟨S1280x1408, .bf16⟩
  | 87 => ⟨S20x64x1408, .bf16⟩
  | 88 => ⟨S20x1x1408, .bf16⟩
  | 89 => ⟨S20x64x1408, .bf16⟩
  | 90 => ⟨S20x64x1408, .bf16⟩
  | 91 => ⟨S1280x1408, .bf16⟩
  | 92 => ⟨S20x1408x1, .bf16⟩
  | 93 => ⟨S20x1408, .bf16⟩
  | 94 => ⟨S_, .i32⟩
  | 95 => ⟨S1280x1408, .i32⟩
  | 96 => ⟨S1280x1408, .i32⟩
  | 97 => ⟨S_, .i32⟩
  | 98 => ⟨S1280x1408, .i32⟩
  | 99 => ⟨S1280x1408, .i1⟩
  | 100 => ⟨S_, .i32⟩
  | 101 => ⟨S1280x1408, .i32⟩
  | 102 => ⟨S1280x1408, .i32⟩
  | 103 => ⟨S_, .i32⟩
  | 104 => ⟨S1280x1408, .i32⟩
  | 105 => ⟨S1280x1408, .i1⟩
  | 106 => ⟨S_, .i32⟩
  | 107 => ⟨S1280x1408, .i32⟩
  | 108 => ⟨S1280x1408, .i32⟩
  | 109 => ⟨S_, .i32⟩
  | 110 => ⟨S1280x1408, .i32⟩
  | 111 => ⟨S1280x1408, .i1⟩
  | 112 => ⟨S_, .i32⟩
  | 113 => ⟨S1280x1408, .i32⟩
  | 114 => ⟨S1280x1408, .i32⟩
  | 115 => ⟨S_, .i32⟩
  | 116 => ⟨S1280x1408, .i32⟩
  | 117 => ⟨S1280x1408, .i1⟩
  | 118 => ⟨S_, .bf16⟩
  | 119 => ⟨S_, .bf16⟩
  | 120 => ⟨S1280x1408, .bf16⟩
  | 121 => ⟨S1280x1408, .bf16⟩
  | 122 => ⟨S1280x1408, .bf16⟩
  | 123 => ⟨S_, .bf16⟩
  | 124 => ⟨S_, .bf16⟩
  | 125 => ⟨S1280x1408, .bf16⟩
  | 126 => ⟨S1280x1408, .bf16⟩
  | 127 => ⟨S1280x1408, .bf16⟩
  | _ => ⟨S8x256x1280, .bf16⟩

abbrev hbmTy0_1 (i : Nat) : BufTy := match i % 128 with
  | 0 => ⟨S_, .bf16⟩
  | 1 => ⟨S_, .bf16⟩
  | 2 => ⟨S1280x1408, .bf16⟩
  | 3 => ⟨S1280x1408, .bf16⟩
  | 4 => ⟨S1280x1408, .bf16⟩
  | 5 => ⟨S_, .bf16⟩
  | 6 => ⟨S_, .bf16⟩
  | 7 => ⟨S1280x1408, .bf16⟩
  | 8 => ⟨S1280x1408, .bf16⟩
  | 9 => ⟨S1280x1408, .bf16⟩
  | 10 => ⟨S_, .bf16⟩
  | 11 => ⟨S_, .bf16⟩
  | 12 => ⟨S1280x1408, .bf16⟩
  | 13 => ⟨S1280x1408, .bf16⟩
  | 14 => ⟨S1280x1408, .bf16⟩
  | 15 => ⟨S_, .bf16⟩
  | 16 => ⟨S_, .bf16⟩
  | 17 => ⟨S1280x1408, .bf16⟩
  | 18 => ⟨S1280x1408, .bf16⟩
  | 19 => ⟨S1280x1408, .bf16⟩
  | 20 => ⟨S_, .bf16⟩
  | 21 => ⟨S_, .bf16⟩
  | 22 => ⟨S1280x1408, .bf16⟩
  | 23 => ⟨S1280x1408, .bf16⟩
  | 24 => ⟨S1280x1408, .bf16⟩
  | 25 => ⟨S_, .bf16⟩
  | 26 => ⟨S_, .bf16⟩
  | 27 => ⟨S1280x1408, .bf16⟩
  | 28 => ⟨S1280x1408, .bf16⟩
  | 29 => ⟨S1280x1408, .bf16⟩
  | 30 => ⟨S1280x1408, .bf16⟩
  | 31 => ⟨S1280x1408, .bf16⟩
  | 32 => ⟨S1280x1408, .bf16⟩
  | 33 => ⟨S1280x1408, .bf16⟩
  | 34 => ⟨S1280x1408, .bf16⟩
  | 35 => ⟨S1280x1408, .bf16⟩
  | 36 => ⟨S1280x1408, .bf16⟩
  | 37 => ⟨S20x64x1408, .bf16⟩
  | 38 => ⟨S20x1x1408, .bf16⟩
  | 39 => ⟨S20x64x1408, .bf16⟩
  | 40 => ⟨S20x64x1408, .bf16⟩
  | 41 => ⟨S1280x1408, .bf16⟩
  | 42 => ⟨S8x256x1408, .f32⟩
  | 43 => ⟨S8x256x1408, .f32⟩
  | 44 => ⟨S8x256x1408x1, .f32⟩
  | 45 => ⟨S8x256x1408x1, .f32⟩
  | 46 => ⟨S8x256x1408x2, .f32⟩
  | 47 => ⟨S8x256x2816, .f32⟩
  | 48 => ⟨S8x256x16, .f32⟩
  | 49 => ⟨S8x256x16, .bf16⟩
  | 50 => ⟨S8x256x2816, .f32⟩
  | 51 => ⟨S_, .f32⟩
  | 52 => ⟨S8x256x2816, .f32⟩
  | 53 => ⟨S8x256x2816, .f32⟩
  | 54 => ⟨S8x256x2816, .f32⟩
  | 55 => ⟨S8x256x2816, .bf16⟩
  | 56 => ⟨S2048x2816, .bf16⟩
  | _ => ⟨S8x256x1280, .bf16⟩

abbrev hbmTy (i : Nat) : BufTy := match i / 128 with
  | 0 => hbmTy0_0 i
  | 1 => hbmTy0_1 i
  | _ => ⟨S8x256x1280, .bf16⟩

abbrev bufTy : (tb : Table) → Fin (tcTables nBuf tb) → BufTy
  | .hbm, ⟨i, _⟩ => hbmTy i
  | _, _ => ⟨S8x256x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_c_6 : Ref sig .tc := ⟨.hbm, 31, rfl⟩
abbrev main_v19 : Ref sig .tc := ⟨.hbm, 32, rfl⟩
abbrev main_v20 : Ref sig .tc := ⟨.hbm, 33, rfl⟩
abbrev main_c_7 : Ref sig .tc := ⟨.hbm, 34, rfl⟩
abbrev main_v21 : Ref sig .tc := ⟨.hbm, 35, rfl⟩
abbrev main_v22 : Ref sig .tc := ⟨.hbm, 36, rfl⟩
abbrev main_c_8 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_cst_9 : Ref sig .tc := ⟨.hbm, 41, rfl⟩
abbrev main_call0_v0 : Ref sig .tc := ⟨.hbm, 42, rfl⟩
abbrev main_call0_v1 : Ref sig .tc := ⟨.hbm, 43, rfl⟩
abbrev main_v25 : Ref sig .tc := ⟨.hbm, 44, rfl⟩
abbrev main_cst_10 : Ref sig .tc := ⟨.hbm, 45, rfl⟩
abbrev main_cst_11 : Ref sig .tc := ⟨.hbm, 46, rfl⟩
abbrev main_call1_v0 : Ref sig .tc := ⟨.hbm, 47, rfl⟩
abbrev main_call1_v1 : Ref sig .tc := ⟨.hbm, 48, rfl⟩
abbrev main_v26 : Ref sig .tc := ⟨.hbm, 49, rfl⟩
abbrev main_cst_12 : Ref sig .tc := ⟨.hbm, 50, rfl⟩
abbrev main_cst_13 : Ref sig .tc := ⟨.hbm, 51, rfl⟩
abbrev main_call2_v0 : Ref sig .tc := ⟨.hbm, 52, rfl⟩
abbrev main_call2_v1 : Ref sig .tc := ⟨.hbm, 53, rfl⟩
abbrev main_v27 : Ref sig .tc := ⟨.hbm, 54, rfl⟩
abbrev main_cst_14 : Ref sig .tc := ⟨.hbm, 55, rfl⟩
abbrev main_cst_15 : Ref sig .tc := ⟨.hbm, 56, rfl⟩
abbrev main_call3_v0 : Ref sig .tc := ⟨.hbm, 57, rfl⟩
abbrev main_call3_v1 : Ref sig .tc := ⟨.hbm, 58, rfl⟩
abbrev main_v28 : Ref sig .tc := ⟨.hbm, 59, rfl⟩
abbrev main_cst_16 : Ref sig .tc := ⟨.hbm, 60, rfl⟩
abbrev main_cst_17 : Ref sig .tc := ⟨.hbm, 61, rfl⟩
abbrev main_call4_v0 : Ref sig .tc := ⟨.hbm, 62, rfl⟩
abbrev main_call4_v1 : Ref sig .tc := ⟨.hbm, 63, rfl⟩
abbrev main_v29 : Ref sig .tc := ⟨.hbm, 64, rfl⟩
abbrev main_cst_18 : Ref sig .tc := ⟨.hbm, 65, rfl⟩
abbrev main_cst_19 : Ref sig .tc := ⟨.hbm, 66, rfl⟩
abbrev main_call5_v0 : Ref sig .tc := ⟨.hbm, 67, rfl⟩
abbrev main_call5_v1 : Ref sig .tc := ⟨.hbm, 68, rfl⟩
abbrev main_v30 : Ref sig .tc := ⟨.hbm, 69, rfl⟩
abbrev main_cst_20 : Ref sig .tc := ⟨.hbm, 70, rfl⟩
abbrev main_cst_21 : Ref sig .tc := ⟨.hbm, 71, rfl⟩
abbrev main_call6_v0 : Ref sig .tc := ⟨.hbm, 72, rfl⟩
abbrev main_call6_v1 : Ref sig .tc := ⟨.hbm, 73, rfl⟩
abbrev main_v31 : Ref sig .tc := ⟨.hbm, 74, rfl⟩
abbrev main_cst_22 : Ref sig .tc := ⟨.hbm, 75, rfl⟩
abbrev main_cst_23 : Ref sig .tc := ⟨.hbm, 76, rfl⟩
abbrev main_call7_v0 : Ref sig .tc := ⟨.hbm, 77, rfl⟩
abbrev main_call7_v1 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_c_24 : Ref sig .tc := ⟨.hbm, 94, rfl⟩
abbrev main_v47 : Ref sig .tc := ⟨.hbm, 95, rfl⟩
abbrev main_v48 : Ref sig .tc := ⟨.hbm, 96, rfl⟩
abbrev main_c_25 : Ref sig .tc := ⟨.hbm, 97, rfl⟩
abbrev main_v49 : Ref sig .tc := ⟨.hbm, 98, rfl⟩
abbrev main_v50 : Ref sig .tc := ⟨.hbm, 99, rfl⟩
abbrev main_c_26 : Ref sig .tc := ⟨.hbm, 100, rfl⟩
abbrev main_v51 : Ref sig .tc := ⟨.hbm, 101, rfl⟩
abbrev main_v52 : Ref sig .tc := ⟨.hbm, 102, rfl⟩
abbrev main_c_27 : Ref sig .tc := ⟨.hbm, 103, rfl⟩
abbrev main_v53 : Ref sig .tc := ⟨.hbm, 104, rfl⟩
abbrev main_v54 : Ref sig .tc := ⟨.hbm, 105, rfl⟩
abbrev main_c_28 : Ref sig .tc := ⟨.hbm, 106, rfl⟩
abbrev main_v55 : Ref sig .tc := ⟨.hbm, 107, rfl⟩
abbrev main_v56 : Ref sig .tc := ⟨.hbm, 108, rfl⟩
abbrev main_c_29 : Ref sig .tc := ⟨.hbm, 109, rfl⟩
abbrev main_v57 : Ref sig .tc := ⟨.hbm, 110, rfl⟩
abbrev main_v58 : Ref sig .tc := ⟨.hbm, 111, rfl⟩
abbrev main_c_30 : Ref sig .tc := ⟨.hbm, 112, rfl⟩
abbrev main_v59 : Ref sig .tc := ⟨.hbm, 113, rfl⟩
abbrev main_v60 : Ref sig .tc := ⟨.hbm, 114, rfl⟩
abbrev main_c_31 : Ref sig .tc := ⟨.hbm, 115, rfl⟩
abbrev main_v61 : Ref sig .tc := ⟨.hbm, 116, rfl⟩
abbrev main_v62 : Ref sig .tc := ⟨.hbm, 117, rfl⟩
abbrev main_cst_32 : Ref sig .tc := ⟨.hbm, 118, rfl⟩
abbrev main_cst_33 : Ref sig .tc := ⟨.hbm, 119, rfl⟩
abbrev main_call15_v0 : Ref sig .tc := ⟨.hbm, 120, rfl⟩
abbrev main_call15_v1 : Ref sig .tc := ⟨.hbm, 121, rfl⟩
abbrev main_v63 : Ref sig .tc := ⟨.hbm, 122, rfl⟩
abbrev main_cst_34 : Ref sig .tc := ⟨.hbm, 123, rfl⟩
abbrev main_cst_35 : Ref sig .tc := ⟨.hbm, 124, rfl⟩
abbrev main_call16_v0 : Ref sig .tc := ⟨.hbm, 125, rfl⟩
abbrev main_call16_v1 : Ref sig .tc := ⟨.hbm, 126, rfl⟩
abbrev main_v64 : Ref sig .tc := ⟨.hbm, 127, rfl⟩
abbrev main_cst_36 : Ref sig .tc := ⟨.hbm, 128, rfl⟩
abbrev main_cst_37 : Ref sig .tc := ⟨.hbm, 129, rfl⟩
abbrev main_call17_v0 : Ref sig .tc := ⟨.hbm, 130, rfl⟩
abbrev main_call17_v1 : Ref sig .tc := ⟨.hbm, 131, rfl⟩
abbrev main_v65 : Ref sig .tc := ⟨.hbm, 132, rfl⟩
abbrev main_cst_38 : Ref sig .tc := ⟨.hbm, 133, rfl⟩
abbrev main_cst_39 : Ref sig .tc := ⟨.hbm, 134, rfl⟩
abbrev main_call18_v0 : Ref sig .tc := ⟨.hbm, 135, rfl⟩
abbrev main_call18_v1 : Ref sig .tc := ⟨.hbm, 136, rfl⟩
abbrev main_v66 : Ref sig .tc := ⟨.hbm, 137, rfl⟩
abbrev main_cst_40 : Ref sig .tc := ⟨.hbm, 138, rfl⟩
abbrev main_cst_41 : Ref sig .tc := ⟨.hbm, 139, rfl⟩
abbrev main_call19_v0 : Ref sig .tc := ⟨.hbm, 140, rfl⟩
abbrev main_call19_v1 : Ref sig .tc := ⟨.hbm, 141, rfl⟩
abbrev main_v67 : Ref sig .tc := ⟨.hbm, 142, rfl⟩
abbrev main_cst_42 : Ref sig .tc := ⟨.hbm, 143, rfl⟩
abbrev main_cst_43 : Ref sig .tc := ⟨.hbm, 144, rfl⟩
abbrev main_call20_v0 : Ref sig .tc := ⟨.hbm, 145, rfl⟩
abbrev main_call20_v1 : Ref sig .tc := ⟨.hbm, 146, rfl⟩
abbrev main_v68 : Ref sig .tc := ⟨.hbm, 147, rfl⟩
abbrev main_cst_44 : Ref sig .tc := ⟨.hbm, 148, rfl⟩
abbrev main_cst_45 : Ref sig .tc := ⟨.hbm, 149, rfl⟩
abbrev main_call21_v0 : Ref sig .tc := ⟨.hbm, 150, rfl⟩
abbrev main_call21_v1 : Ref sig .tc := ⟨.hbm, 151, rfl⟩
abbrev main_v69 : Ref sig .tc := ⟨.hbm, 152, rfl⟩
abbrev main_cst_46 : Ref sig .tc := ⟨.hbm, 153, rfl⟩
abbrev main_cst_47 : Ref sig .tc := ⟨.hbm, 154, rfl⟩
abbrev main_call22_v0 : Ref sig .tc := ⟨.hbm, 155, rfl⟩
abbrev main_call22_v1 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_cst_48 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩

abbrev nD : Nat := 1
abbrev τ : Topo := Topo.v7x

variable {F : FTy → Type} [FloatOps F]
-- ==== Proof.Block.lean ====
/-
  The kernel's blocks of 64 rows of dequantized weights, and what one grid point computes from them: the twenty blocks
  the kernel dequantizes are one function of a packed block and a row of scales, and the scratch they are stored into
  holds one array, `weights`.
-/
module

public import proofs.«01_k».proof.Proof.Gen.KernelIdeal.Value
public import Idealize.ShloMosaic.Lib.Pipeline.ValueKit.Tiles
public import Idealize.ShloMosaic.Lib.Pipeline.ValueKit.Geometry
public import Idealize.ShloMosaic.Lib.Pipeline.ReadBack
public import Idealize.ShloMosaic.Lib.Pointwise

@[expose] public section

noncomputable section

open Idealize.ShloMosaic Idealize.ShloMosaic.TcCoe Idealize.SL.Sem

namespace Cert.KernelIdeal.Value

open Cert.KernelIdeal Cert.KernelIdeal.Gen

variable {F : FTy → Type} [FloatOps F]

/-- The lane number of every element of a tile of 16 words by 128 lanes. -/
def lanes : IVec S16x128 32 := iota .tc S16x128 32 [1] iota_S16x128_d1_w32

/-- The lane each word is gathered from: half its own lane number, plus the first lane `h` of the half. -/
def source (h : BitVec 32) : IVec S16x128 32 :=
  shapeCast S16x128 (shapeCast S16x128x1
    (select (cmpi .slt (addi (shrsi lanes (broadcast S16x128 1#32)) (broadcast S16x128 h)) (broadcast S16x128 0#32))
      (addi (addi (shrsi lanes (broadcast S16x128 1#32)) (broadcast S16x128 h)) (broadcast S16x128 128#32))
      (addi (shrsi lanes (broadcast S16x128 1#32)) (broadcast S16x128 h)))
    shapeCasts_S16x128_S16x128x1) shapeCasts_S16x128x1_S16x128

/-- The codes of one half of a block: the packed bytes read four rows to a word, the word of lane `h + l / 2` taken to
    lane `l`, shifted down by four bits in the odd lanes, masked to the low nibble of every byte, read as bytes again. -/
def codesOf (h : BitVec 32) (w : IVec S64x128 8) : IVec S64x128 16 :=
  extui 16 (bitcast S64x128 8
    (andi (shrui (dynamicGather 1 (bitcast S16x128 32 w bitcasts_S64x128_w8_S16x128_w32) (source h))
        (muli (andi lanes (broadcast S16x128 1#32)) (broadcast S16x128 4#32)))
      (broadcast S16x128 252645135#32))
    bitcasts_S16x128_w32_S64x128_w8) natLt_8_16

/-- Whether the bits of `b` are set in each code. -/
def bitSet (code : IVec S64x128 16) (b : BitVec 16) : IVec S64x128 1 :=
  cmpi .ne (andi code (broadcast S64x128 b)) (broadcast S64x128 0#16)

/-- The constant of bit pattern `w` in every element. -/
def splat (w : BitVec 16) : FVec F S64x128 .bf16 := broadcast S64x128 (Scalar.ofBits .bf16 w)

/-- The table value of every code, chosen by its four bits. -/
def lookup (code : IVec S64x128 16) : FVec F S64x128 .bf16 :=
  let b0 := bitSet code 1#16
  let b1 := bitSet code 2#16
  let b2 := bitSet code 4#16
  let b3 := bitSet code 8#16
  select b3
    (select b2
      (select b1 (select b0 (splat 0x3F80#16) (splat 0x3F39#16)) (select b0 (splat 0x3F10#16) (splat 0x3EE2#16)))
      (select b1 (select b0 (splat 0x3EAD#16) (splat 0x3E7C#16)) (select b0 (splat 0x3E25#16) (splat 0x3DA3#16))))
    (select b2
      (select b1 (select b0 (splat 0x0000#16) (splat 0xBDBA#16)) (select b0 (splat 0xBE3D#16) (splat 0xBE92#16)))
      (select b1 (select b0 (splat 0xBECA#16) (splat 0xBF06#16)) (select b0 (splat 0xBF32#16) (splat 0xBF80#16))))

/-- A block of 64 rows of dequantized weights, from its row of scales and its packed codes. -/
def block (am : Vec F S1x256 .f32) (w : Vec F S64x128 .i8) : FVec F S64x256 .bf16 :=
  shapeCast S64x256 (concatenate S64x256 1
    [⟨S64x128, mulf (lookup (codesOf 0#32 w)) (broadcastTo S64x128
        (extractStridedSlice S1x128 ![0, 0] (truncf .bf16 am bitsLt_bf16_f32) slices_S1x256_o0_0_S1x128) broadcasts_S1x128_S64x128)⟩,
     ⟨S64x128, mulf (lookup (codesOf 64#32 w)) (broadcastTo S64x128
        (extractStridedSlice S1x128 ![0, 128] (truncf .bf16 am bitsLt_bf16_f32) slices_S1x256_o0_128_S1x128) broadcasts_S1x128_S64x128)⟩]
    concatenates_S64x128_S64x128_S64x256_d1) shapeCasts_S64x256_S64x256

/-- The dequantized weights of one tile of 256 output columns, from its packed codes and its scales: row `k` is row
    `k % 64` of block `k / 64`. -/
def weights (x1 : Vec F S1280x128 .i8) (x2 : Vec F S20x256 .f32) : Vec F S1280x256 .bf16 := fun i =>
  block (fun j => x2 (ix2 ⟨(i 0).val / 64, by have := (i 0).isLt; change (i 0).val < 1280 at this; omega⟩ (j 1)))
    (fun j => x1 (ix2 ⟨(i 0).val / 64 * 64 + (j 0).val, by
        have := (i 0).isLt; change (i 0).val < 1280 at this; have := (j 0).isLt; change (j 0).val < 64 at this; omega⟩ (j 1)))
    (ix2 ⟨(i 0).val % 64, by omega⟩ (i 1))

/-- Block `b` as the kernel stores it: into rows `o = 64 b` to `o + 63` of the scratch. -/
def stored (x1 : Vec F S1280x128 .i8) (x2 : Vec F S20x256 .f32) (b o : ℕ) (h2 : ∀ a : Fin 2, ![b, 0] a + ![1, 256] a ≤ S20x256.size a)
    (h1 : ∀ a : Fin 2, ![o, 0] a + ![64, 128] a ≤ S1280x128.size a) (h : ∀ a : Fin 2, ![o, 0] a + ![64, 256] a ≤ S1280x256.size a) :
    View.Piece (Elt F) S1280x256 .bf16 :=
  ⟨Rect.unit (s := S1280x256) ![o, 0] ![64, 256] h,
    block (View.ld x2 (Rect.unit (s := S20x256) ![b, 0] ![1, 256] h2)) (View.ld x1 (Rect.unit (s := S1280x128) ![o, 0] ![64, 128] h1))⟩

/-- The twenty blocks stored at one grid point, the last one first. -/
def storedAll (x1 : Vec F S1280x128 .i8) (x2 : Vec F S20x256 .f32) : List (View.Piece (Elt F) S1280x256 .bf16) :=
  [stored x1 x2 19 1216 inb_S20x256_S1x256_19_0 inb_S1280x128_S64x128_1216_0 inb_S1280x256_S64x256_1216_0,
   stored x1 x2 18 1152 inb_S20x256_S1x256_18_0 inb_S1280x128_S64x128_1152_0 inb_S1280x256_S64x256_1152_0,
   stored x1 x2 17 1088 inb_S20x256_S1x256_17_0 inb_S1280x128_S64x128_1088_0 inb_S1280x256_S64x256_1088_0,
   stored x1 x2 16 1024 inb_S20x256_S1x256_16_0 inb_S1280x128_S64x128_1024_0 inb_S1280x256_S64x256_1024_0,
   stored x1 x2 15 960 inb_S20x256_S1x256_15_0 inb_S1280x128_S64x128_960_0 inb_S1280x256_S64x256_960_0,
   stored x1 x2 14 896 inb_S20x256_S1x256_14_0 inb_S1280x128_S64x128_896_0 inb_S1280x256_S64x256_896_0,
   stored x1 x2 13 832 inb_S20x256_S1x256_13_0 inb_S1280x128_S64x128_832_0 inb_S1280x256_S64x256_832_0,
   stored x1 x2 12 768 inb_S20x256_S1x256_12_0 inb_S1280x128_S64x128_768_0 inb_S1280x256_S64x256_768_0,
   stored x1 x2 11 704 inb_S20x256_S1x256_11_0 inb_S1280x128_S64x128_704_0 inb_S1280x256_S64x256_704_0,
   stored x1 x2 10 640 inb_S20x256_S1x256_10_0 inb_S1280x128_S64x128_640_0 inb_S1280x256_S64x256_640_0,
   stored x1 x2 9 576 inb_S20x256_S1x256_9_0 inb_S1280x128_S64x128_576_0 inb_S1280x256_S64x256_576_0,
   stored x1 x2 8 512 inb_S20x256_S1x256_8_0 inb_S1280x128_S64x128_512_0 inb_S1280x256_S64x256_512_0,
   stored x1 x2 7 448 inb_S20x256_S1x256_7_0 inb_S1280x128_S64x128_448_0 inb_S1280x256_S64x256_448_0,
   stored x1 x2 6 384 inb_S20x256_S1x256_6_0 inb_S1280x128_S64x128_384_0 inb_S1280x256_S64x256_384_0,
   stored x1 x2 5 320 inb_S20x256_S1x256_5_0 inb_S1280x128_S64x128_320_0 inb_S1280x256_S64x256_320_0,
   stored x1 x2 4 256 inb_S20x256_S1x256_4_0 inb_S1280x128_S64x128_256_0 inb_S1280x256_S64x256_256_0,
   stored x1 x2 3 192 inb_S20x256_S1x256_3_0 inb_S1280x128_S64x128_192_0 inb_S1280x256_S64x256_192_0,
   stored x1 x2 2 128 inb_S20x256_S1x256_2_0 inb_S1280x128_S64x128_128_0 inb_S1280x256_S64x256_128_0,
   stored x1 x2 1 64 inb_S20x256_S1x256_1_0 inb_S1280x128_S64x128_64_0 inb_S1280x256_S64x256_64_0,
   stored x1 x2 0 0 inb_S20x256_S1x256_0_0 inb_S1280x128_S64x128_0_0 inb_S1280x256_S64x256_0_0]

/-- A stored block holds the tile's weights at its rows. -/
theorem stored_eq (x1 : Vec F S1280x128 .i8) (x2 : Vec F S20x256 .f32) (b o : ℕ) (h2 h1 h) (ho : o = 64 * b)
    (x : (stored x1 x2 b o h2 h1 h).1.shape.Idx) :
    (stored x1 x2 b o h2 h1 h).2 x = weights x1 x2 ((stored x1 x2 b o h2 h1 h).1.emb x) := by
  subst ho
  obtain ⟨p, q, rfl⟩ : ∃ (p : Fin 64) (q : Fin 256), x = (ix2 p q : S64x256.Idx) := ⟨x 0, x 1, eq_ix2 x⟩
  have hb : b < 20 := by have := h2 0; simp at this; omega
  have e : (stored x1 x2 b (64 * b) h2 h1 h).1.emb (ix2 p q : S64x256.Idx) = (ix2 ⟨64 * b + p.val, by omega⟩ q : S1280x256.Idx) := by
    funext a
    match a with
    | ⟨0, _⟩ => exact Fin.ext (ValueKit.rect_emb_unit_val _ _ h _ _)
    | ⟨1, _⟩ => exact Fin.ext ((ValueKit.rect_emb_unit_val _ _ h _ _).trans (Nat.zero_add _))
  rw [e]
  have e1 : (64 * b + p.val) / 64 = b := by omega
  have e2 : (64 * b + p.val) % 64 = p.val := by omega
  refine congr (congrArg₂ block (funext fun j => ?_) (funext fun j => ?_)) ?_
  · refine View.ld_unit_apply_of _ _ _ _ _ _ fun a => ?_
    match a with
    | ⟨0, _⟩ => have := (j 0).isLt; change (j 0).val < 1 at this; show (64 * b + p.val) / 64 = b + (j 0).val; omega
    | ⟨1, _⟩ => exact (Nat.zero_add _).symm
  · refine View.ld_unit_apply_of _ _ _ _ _ _ fun a => ?_
    match a with
    | ⟨0, _⟩ => show (64 * b + p.val) / 64 * 64 + (j 0).val = 64 * b + (j 0).val; omega
    | ⟨1, _⟩ => exact (Nat.zero_add _).symm
  · exact congrArg (fun r : Fin 64 => (ix2 r q : S64x256.Idx)) (Fin.ext e2.symm)

/-- The scratch, loaded whole after the twenty blocks were stored, holds the tile's weights. -/
theorem load_storedAll (x1 : Vec F S1280x128 .i8) (x2 : Vec F S20x256 .f32) (v : View sig .tc .vmem S1280x256 .bf16) (h) :
    v.readCov (storedAll x1 x2) (Rect.unit (s := S1280x256) ![0, 0] ![1280, 256] h).toLoadRect = weights x1 x2 := by
  rw [View.readCov_eq_canon']
  funext j
  rw [View.canon_apply_of_pieces (weights x1 x2)]
  · exact congrArg _ (funext fun a => Fin.ext ((Rect.idx_unit_val _ _ _ _ _).trans (by fin_cases a <;> exact Nat.zero_add _)))
  · intro p hp
    simp only [storedAll, List.mem_cons, List.not_mem_nil, or_false] at hp
    rcases hp with rfl | rfl | rfl | rfl | rfl | rfl | rfl | rfl | rfl | rfl | rfl | rfl | rfl | rfl | rfl | rfl | rfl | rfl | rfl | rfl <;>
      exact stored_eq _ _ _ _ _ _ _ rfl
  · exact View.cover_of_tiledL _ ![64, 256] (by sl_kernel_rfl) _

set_option maxRecDepth 16384
set_option maxHeartbeats 4000000

variable (m : (ℓ : Loc nD τ sig) → Buf (Elt F) ℓ)

/-- After a later grid point the output block is the point's `y`, from the tile's weights and the carried `x · lora_a`. -/
theorem outsAt0_1_B (c : Dev nD) (t : Fin cfg0.N) (h : ¬ t.val % 11 = 0) : (outsAt0 m c t.val t.isLt).1 =
   k0_pay579 (iblk m c 0 t) (weights (iblk m c 1 t) (iblk m c 2 t)) (outsAt0 m c (t.val - 1) (by omega)).2 (iblk m c 4 t) := by
  rw [outsAt0_B m c t h]
  frame_out
  rw [read_unread_whole, ← load_storedAll (iblk m c 1 t) (iblk m c 2 t) (View.whole cc0_scratch0) inb_S1280x256_S1280x256_0_0]
  rfl

/-- After the first grid point the output block is the point's `y`, from the tile's weights and the new `x · lora_a`. -/
theorem outsAt0_1_A (c : Dev nD) (t : Fin cfg0.N) (h : t.val % 11 = 0) : (outsAt0 m c t.val t.isLt).1 =
   k0_pay579 (iblk m c 0 t) (weights (iblk m c 1 t) (iblk m c 2 t)) (k0_pay1 (iblk m c 0 t) (iblk m c 3 t)) (iblk m c 4 t) := by
  rw [outsAt0_A m c t h]
  frame_out
  rw [← load_storedAll (iblk m c 1 t) (iblk m c 2 t) (View.whole cc0_scratch0) inb_S1280x256_S1280x256_0_0]
  rfl

/-- The first grid point leaves `x · lora_a` in the carried scratch. -/
theorem outsAt0_2_A (c : Dev nD) (t : Fin cfg0.N) (h : t.val % 11 = 0) : (outsAt0 m c t.val t.isLt).2 =
   (k0_pay1 (iblk m c 0 t) (iblk m c 3 t)) := by
  rw [outsAt0_A m c t h]
  frame_out

/-- A later grid point leaves the carried scratch as it was. -/
theorem outsAt0_2_B (c : Dev nD) (t : Fin cfg0.N) (h : ¬ t.val % 11 = 0) : (outsAt0 m c t.val t.isLt).2 =
   (outsAt0 m c (t.val - 1) (by omega)).2 := by
  rw [outsAt0_B m c t h]
  rfl

end Cert.KernelIdeal.Value

end
-- ==== Proof.Codes.lean ====
/-
  The 4-bit codes: which bits of which packed byte the kernel's gather, shift and mask leave in each code, and the table
  value a code selects.
-/
module

public import proofs.«01_k».proof.Proof.Block
public import Idealize.ShloMosaic.Lib.BitcastFour

@[expose] public section

noncomputable section

open Idealize.ShloMosaic Idealize.ShloMosaic.TcCoe

namespace Cert.Nf4

/-- The table value that the four bits of a code select, bit 0 first: the sixteen bf16 constants of the table, read as
    extended reals. -/
def value (b0 b1 b2 b3 : BitVec 1) : EReal :=
  Scalar.select b3
    (Scalar.select b2
      (Scalar.select b1
        (Scalar.select b0 (Ideal.ofBits .bf16 0x3F80#16) (Ideal.ofBits .bf16 0x3F39#16))
        (Scalar.select b0 (Ideal.ofBits .bf16 0x3F10#16) (Ideal.ofBits .bf16 0x3EE2#16)))
      (Scalar.select b1
        (Scalar.select b0 (Ideal.ofBits .bf16 0x3EAD#16) (Ideal.ofBits .bf16 0x3E7C#16))
        (Scalar.select b0 (Ideal.ofBits .bf16 0x3E25#16) (Ideal.ofBits .bf16 0x3DA3#16))))
    (Scalar.select b2
      (Scalar.select b1
        (Scalar.select b0 (Ideal.ofBits .bf16 0x0000#16) (Ideal.ofBits .bf16 0xBDBA#16))
        (Scalar.select b0 (Ideal.ofBits .bf16 0xBE3D#16) (Ideal.ofBits .bf16 0xBE92#16)))
      (Scalar.select b1
        (Scalar.select b0 (Ideal.ofBits .bf16 0xBECA#16) (Ideal.ofBits .bf16 0xBF06#16))
        (Scalar.select b0 (Ideal.ofBits .bf16 0xBF32#16) (Ideal.ofBits .bf16 0xBF80#16))))

/-- The table value of one nibble of a packed byte: the low nibble for `p = 0`, the high nibble for `p = 1`. -/
def nibble (w : BitVec 8) (p : ℕ) : EReal :=
  value (BitVec.ofBool (w.getLsbD (0 + 4 * p))) (BitVec.ofBool (w.getLsbD (1 + 4 * p))) (BitVec.ofBool (w.getLsbD (2 + 4 * p)))
    (BitVec.ofBool (w.getLsbD (3 + 4 * p)))

/-- Testing a bit of a byte widened to 16 bits is reading that bit of the byte. -/
theorem test16 (w : BitVec 8) :
    IntOp.cmpi .ne (IntOp.andi (w.setWidth 16) 1#16) 0#16 = BitVec.ofBool (w.getLsbD 0)
    ∧ IntOp.cmpi .ne (IntOp.andi (w.setWidth 16) 2#16) 0#16 = BitVec.ofBool (w.getLsbD 1)
    ∧ IntOp.cmpi .ne (IntOp.andi (w.setWidth 16) 4#16) 0#16 = BitVec.ofBool (w.getLsbD 2)
    ∧ IntOp.cmpi .ne (IntOp.andi (w.setWidth 16) 8#16) 0#16 = BitVec.ofBool (w.getLsbD 3) := by
  revert w; decide +kernel

end Cert.Nf4

namespace Cert.KernelIdeal.Value

open Cert.KernelIdeal Cert.KernelIdeal.Gen

/-- Lane `l` of the first half takes the word of lane `l / 2`. -/
theorem source_0 (a : Fin 16) (l : Fin 128) : (source 0#32 (ix2 a l)).toNat % 128 = l.val / 2 + 0 := by
  unfold source lanes
  pointwise
  revert l; decide +kernel

/-- Lane `l` of the second half takes the word of lane `l / 2 + 64`. -/
theorem source_64 (a : Fin 16) (l : Fin 128) : (source 64#32 (ix2 a l)).toNat % 128 = l.val / 2 + 64 := by
  unfold source lanes
  pointwise
  revert l; decide +kernel

/-- The shift applied in lane `l`: four bits in the odd lanes, none in the even ones. -/
theorem shift_eq (l : Fin 128) : (IntOp.muli (IntOp.andi (BitVec.ofNat 32 l.val) 1#32) 4#32).toNat = 4 * (l.val % 2) := by
  revert l; decide +kernel

/-- The mask keeps the low four bits of every byte of a word. -/
theorem mask_bit (j k : Fin 4) : (252645135#32 : BitVec 32).getLsbD (8 * j.val + k.val) = true := by
  revert j k; decide +kernel

/-- Bit `k < 4` of the code byte at row `r`, lane `l` is bit `k`, or in an odd lane bit `k + 4`, of the packed byte at row `r` and the lane the
    gather reads. -/
theorem code_bit (h : BitVec 32) (w : IVec S64x128 8) (r : Fin 64) (l : Fin 128) (s : Fin 128)
    (hs : ∀ a : Fin 16, (source h (ix2 a l)).toNat % 128 = s.val) (k : ℕ) (hk : k < 4) :
    (bitcast S64x128 8
      (andi (shrui (dynamicGather 1 (bitcast S16x128 32 w bitcasts_S64x128_w8_S16x128_w32) (source h))
          (muli (andi lanes (broadcast S16x128 1#32)) (broadcast S16x128 4#32)))
        (broadcast S16x128 252645135#32))
      bitcasts_S16x128_w32_S64x128_w8 (ix2 r l : S64x128.Idx)).getLsbD k = (w (ix2 r s)).getLsbD (k + 4 * (l.val % 2)) := by
  rw [bitcast_getLsbD _ _ _ k (by omega) (by decide)]
  have hrow : S64x128.row (ix2 r l : S64x128.Idx) = r.val := rfl
  have e1 : (S64x128.row (ix2 r l : S64x128.Idx) * 8 + k) % 32 = 8 * (r.val % 4) + k := by rw [hrow]; omega
  have e2 : (S64x128.row (ix2 r l : S64x128.Idx) * 8 + k) / 32 = r.val / 4 := by rw [hrow]; omega
  have hi : (bitcasts_S16x128_w32_S64x128_w8).srcIdx (ix2 r l : S64x128.Idx) ((S64x128.row (ix2 r l : S64x128.Idx) * 8 + k) / 32)
      (fun a ha => (Nat.div_lt_iff_lt_mul (by decide)).2 ((bitcasts_S16x128_w32_S64x128_w8).pos_lt _ k (by omega) a ha))
      = (ix2 ⟨r.val / 4, by omega⟩ l : S16x128.Idx) := by
    funext a
    match a with
    | ⟨0, _⟩ => exact Fin.ext ((Shape.Bitcasts.srcIdx_row _ _ _ _ ⟨0, Nat.zero_lt_two⟩ rfl).trans e2)
    | ⟨1, _⟩ => exact Fin.ext (Shape.Bitcasts.srcIdx_other _ _ _ _ ⟨1, Nat.one_lt_two⟩ (by show ¬ 1 + 2 = 2; omega))
  rw [hi, e1]
  have hsh : (muli (andi lanes (broadcast S16x128 1#32)) (broadcast S16x128 4#32) (ix2 ⟨r.val / 4, by omega⟩ l : S16x128.Idx)).toNat = 4 * (l.val % 2) := by
    unfold lanes
    pointwise
    exact shift_eq l
  have hg : dynamicGather 1 (bitcast S16x128 32 w bitcasts_S64x128_w8_S16x128_w32) (source h) (ix2 ⟨r.val / 4, by omega⟩ l : S16x128.Idx)
      = bitcast S16x128 32 w bitcasts_S64x128_w8_S16x128_w32 (ix2 ⟨r.val / 4, by omega⟩ s : S16x128.Idx) := by
    unfold dynamicGather
    congr 1
    funext b
    match b with
    | ⟨0, _⟩ => rfl
    | ⟨1, _⟩ => exact Fin.ext (hs _)
  show (IntOp.andi (IntOp.shrui .vector (dynamicGather 1 (bitcast S16x128 32 w bitcasts_S64x128_w8_S16x128_w32) (source h) (ix2 ⟨r.val / 4, by omega⟩ l : S16x128.Idx))
      (muli (andi lanes (broadcast S16x128 1#32)) (broadcast S16x128 4#32) (ix2 ⟨r.val / 4, by omega⟩ l : S16x128.Idx))) 252645135#32).getLsbD _ = _
  rw [hg]
  generalize hX : muli (andi lanes (broadcast S16x128 1#32)) (broadcast S16x128 4#32) (ix2 ⟨r.val / 4, by omega⟩ l : S16x128.Idx) = X at hsh ⊢
  unfold IntOp.andi IntOp.shrui
  rw [if_pos (by omega), BitVec.getLsbD_and, mask_bit ⟨r.val % 4, by omega⟩ ⟨k, hk⟩, Bool.and_true]
  rw [BitVec.ushiftRight_eq', BitVec.getLsbD_ushiftRight, hsh]
  refine (bitcast_8_32_getLsbD_ix2 w _ ⟨r.val / 4, by omega⟩ s _ (by omega) r (by show r.val = 4 * (r.val / 4) + _; omega)).trans ?_
  exact congrArg _ (by omega)

open Cert.Nf4 in
/-- The table value of a code, by its four tests. -/
theorem lookup_apply (code : IVec S64x128 16) (r : Fin 64) (l : Fin 128) :
    lookup (F := Ideal) code (ix2 r l)
      = value (IntOp.cmpi .ne (IntOp.andi (code (ix2 r l)) 1#16) 0#16) (IntOp.cmpi .ne (IntOp.andi (code (ix2 r l)) 2#16) 0#16)
          (IntOp.cmpi .ne (IntOp.andi (code (ix2 r l)) 4#16) 0#16) (IntOp.cmpi .ne (IntOp.andi (code (ix2 r l)) 8#16) 0#16) := by
  unfold lookup bitSet splat value
  pointwise

open Cert.Nf4 in
/-- The table value looked up at row `r`, lane `l` of a half is that of the even or odd nibble of the packed byte at row
    `r` and the lane the gather reads. -/
theorem lookup_codesOf (h : BitVec 32) (w : IVec S64x128 8) (r : Fin 64) (l : Fin 128) (s : Fin 128)
    (hs : ∀ a : Fin 16, (source h (ix2 a l)).toNat % 128 = s.val) :
    lookup (F := Ideal) (codesOf h w) (ix2 r l) = nibble (w (ix2 r s)) (l.val % 2) := by
  have hb := code_bit h w r l s hs
  rw [lookup_apply]
  unfold codesOf nibble extui
  generalize bitcast S64x128 8 _ _ (ix2 r l : S64x128.Idx) = B at hb ⊢
  obtain ⟨t0, t1, t2, t3⟩ := test16 B
  rw [t0, t1, t2, t3, hb 0 (by omega), hb 1 (by omega), hb 2 (by omega), hb 3 (by omega)]

/-- An entry of a block: the table value of the nibble of row `r` that column `q` comes from, times column `q`'s scale. -/
theorem block_apply (am : Vec Ideal S1x256 .f32) (w : Vec Ideal S64x128 .i8) (r : Fin 64) (q : Fin 256) :
    block (F := Ideal) am w (ix2 r q) = Cert.Nf4.nibble (w (ix2 r (⟨q.val / 2, by omega⟩ : Fin 128))) (q.val % 2) * am (ix2 0 q) := by
  unfold block
  pointwise
  split
  · rename_i hq
    rw [lookup_codesOf 0#32 w r ⟨q.val, hq⟩ ⟨q.val / 2, by omega⟩ (fun a => source_0 a _)]
  · rename_i hq
    rw [lookup_codesOf 64#32 w r ⟨q.val - 128, by omega⟩ ⟨q.val / 2, by omega⟩ (fun a => (source_64 a _).trans (by show (q.val - 128) / 2 + 64 = q.val / 2; omega))]
    congr 2
    · show (q.val - 128) % 2 = q.val % 2; omega
    · exact congrArg _ (Fin.ext (by show 128 + (q.val - 128) = q.val; omega))

/-- An entry of a tile's dequantized weights: the table value of the nibble of the packed byte at row `k`, column
    `q / 2`, times the scale of row `k`'s block and column `q`. -/
theorem weights_apply (x1 : Vec Ideal S1280x128 .i8) (x2 : Vec Ideal S20x256 .f32) (k : Fin 1280) (q : Fin 256) :
    weights (F := Ideal) x1 x2 (ix2 k q)
      = Cert.Nf4.nibble (x1 (ix2 k (⟨q.val / 2, by omega⟩ : Fin 128))) (q.val % 2) * x2 (ix2 (⟨k.val / 64, by omega⟩ : Fin 20) q) := by
  refine (block_apply _ _ ⟨k.val % 64, by omega⟩ q).trans ?_
  congr 3
  exact congrArg (fun r : Fin 1280 => (ix2 r _ : S1280x128.Idx)) (Fin.ext (by show k.val / 64 * 64 + k.val % 64 = k.val; omega))

end Cert.KernelIdeal.Value

end
-- ==== Proof.Tile.lean ====
/-
  What the kernel's result array holds, entry by entry, in terms of the arguments.
-/
module

public import proofs.«01_k».proof.Proof.Codes
public import proofs.«01_k».proof.Proof.Gen.KernelIdeal.Value

@[expose] public section

noncomputable section

open Idealize.ShloMosaic Idealize.ShloMosaic.TcCoe Idealize.SL.Sem

namespace Cert.KernelIdeal.Value

open Cert.KernelIdeal Cert.KernelIdeal.Gen

/-- The result at row `r` and column `o`: row `r` of `x` (sequence position `r % 256` of batch `r / 256`) times column
    `o` of the dequantized weights, plus twice the low-rank product. -/
def entry (x : S8x256x1280.Idx → EReal) (w : S1280x1408.Idx → BitVec 8) (am : S20x2816.Idx → EReal) (la : S1280x16.Idx → EReal)
    (lb : S16x2816.Idx → EReal) (r : Fin 2048) (o : Fin 2816) : EReal :=
  ∑ k : Fin 1280, x (ix3 (⟨r.val / 256, by omega⟩ : Fin 8) (⟨r.val % 256, by omega⟩ : Fin 256) k)
      * (Cert.Nf4.nibble (w (ix2 k (⟨o.val / 2, by omega⟩ : Fin 1408))) (o.val % 2) * am (ix2 (⟨k.val / 64, by omega⟩ : Fin 20) o))
    + Ideal.ofBits .f32 0x40000000#32
      * ∑ j : Fin 16, (∑ k : Fin 1280, x (ix3 (⟨r.val / 256, by omega⟩ : Fin 8) (⟨r.val % 256, by omega⟩ : Fin 256) k) * la (ix2 k j)) * lb (ix2 j o)

section

variable (m : (ℓ : Loc nD τ sig) → Buf (Elt Ideal) ℓ)

/-- The block index of every window at every grid point. -/
theorem index_eq : ∀ t : Fin cfg0.N, win0_0.index t = ![0, 0] ∧ win0_1.index t = ![0, t.val] ∧ win0_2.index t = ![0, t.val]
    ∧ win0_3.index t = ![0, 0] ∧ win0_4.index t = ![0, t.val] ∧ win0_5.index t = ![0, t.val] :=
  (by decide +kernel : ∀ t : Fin grid0.N, _)

/-- Merging the first two axes of an array, at an index. -/
theorem merge_apply (x : S8x256x1280.Idx → EReal) (r : Fin 2048) (k : Fin 1280) :
    shapeCast S2048x1280 x shapeCasts_S8x256x1280_S2048x1280 (ix2 r k)
      = x (ix3 (⟨r.val / 256, by omega⟩ : Fin 8) (⟨r.val % 256, by omega⟩ : Fin 256) k) := by
  pointwise

/-- The region finds `x` with its first two axes merged. -/
theorem V_x (c : Dev nD) (r : Fin 2048) (k : Fin 1280) :
    (V m c main_v0 : S2048x1280.Idx → EReal) (ix2 r k)
      = (m ((c : Thread nD τ).loc main_arg0) : S8x256x1280.Idx → EReal) (ix3 (⟨r.val / 256, by omega⟩ : Fin 8) (⟨r.val % 256, by omega⟩ : Fin 256) k) := by
  have e : (V m c main_v0 : S2048x1280.Idx → EReal) = shapeCast S2048x1280 (m ((c : Thread nD τ).loc main_arg0) : S8x256x1280.Idx → EReal) shapeCasts_S8x256x1280_S2048x1280 := by
    rfl
  rw [e, merge_apply]

/-- Every grid point's block of `x` is `x` with its first two axes merged. -/
theorem blk_x (c : Dev nD) (t : Fin cfg0.N) (r : Fin 2048) (k : Fin 1280) :
    (iblk m c 0 t : S2048x1280.Idx → EReal) (ix2 r k)
      = (m ((c : Thread nD τ).loc main_arg0) : S8x256x1280.Idx → EReal) (ix3 (⟨r.val / 256, by omega⟩ : Fin 8) (⟨r.val % 256, by omega⟩ : Fin 256) k) := by
  rw [← V_x m c r k]
  obtain ⟨e0, e1, e2, e3, e4, e5⟩ := index_eq t
  blk_ext [iblk, e0]

/-- The block of packed codes of grid point `t`: columns `128 t` to `128 t + 127`. -/
theorem blk_w (c : Dev nD) (t : Fin cfg0.N) (k : Fin 1280) (q : Fin 128) (o : Fin 1408) (ho : o.val = 128 * t.val + q.val) :
    (iblk m c 1 t : S1280x128.Idx → BitVec 8) (ix2 k q)
      = (m ((c : Thread nD τ).loc main_arg1) : S1280x1408.Idx → BitVec 8) (ix2 k o) := by
  rw [← V_main_arg1 m c]
  obtain ⟨e0, e1, e2, e3, e4, e5⟩ := index_eq t
  blk_ext [iblk, e1]

/-- The block of scales of grid point `t`: columns `256 t` to `256 t + 255`. -/
theorem blk_am (c : Dev nD) (t : Fin cfg0.N) (k : Fin 20) (q : Fin 256) (o : Fin 2816) (ho : o.val = 256 * t.val + q.val) :
    (iblk m c 2 t : S20x256.Idx → EReal) (ix2 k q)
      = (m ((c : Thread nD τ).loc main_arg2) : S20x2816.Idx → EReal) (ix2 k o) := by
  rw [← V_main_arg2 m c]
  obtain ⟨e0, e1, e2, e3, e4, e5⟩ := index_eq t
  blk_ext [iblk, e2]

/-- Every grid point's block of `lora_a` is `lora_a`. -/
theorem blk_la (c : Dev nD) (t : Fin cfg0.N) (k : Fin 1280) (j : Fin 16) :
    (iblk m c 3 t : S1280x16.Idx → EReal) (ix2 k j)
      = (m ((c : Thread nD τ).loc main_arg3) : S1280x16.Idx → EReal) (ix2 k j) := by
  rw [← V_main_arg3 m c]
  obtain ⟨e0, e1, e2, e3, e4, e5⟩ := index_eq t
  blk_ext [iblk, e3]

/-- The block of `lora_b` of grid point `t`: columns `256 t` to `256 t + 255`. -/
theorem blk_lb (c : Dev nD) (t : Fin cfg0.N) (j : Fin 16) (q : Fin 256) (o : Fin 2816) (ho : o.val = 256 * t.val + q.val) :
    (iblk m c 4 t : S16x256.Idx → EReal) (ix2 j q)
      = (m ((c : Thread nD τ).loc main_arg4) : S16x2816.Idx → EReal) (ix2 j o) := by
  rw [← V_main_arg4 m c]
  obtain ⟨e0, e1, e2, e3, e4, e5⟩ := index_eq t
  blk_ext [iblk, e4]

/-- After every grid point the carried scratch holds the first point's `x · lora_a`. -/
theorem carried (c : Dev nD) : ∀ (n : ℕ) (hn : n < cfg0.N),
    (outsAt0 m c n hn).2 = k0_pay1 (iblk m c 0 ⟨0, by rw [show cfg0.N = 11 from N_0]; decide⟩) (iblk m c 3 ⟨0, by rw [show cfg0.N = 11 from N_0]; decide⟩)
  | 0, hn => outsAt0_2_A m c ⟨0, hn⟩ rfl
  | n + 1, hn => by
    have hN : cfg0.N = 11 := N_0
    have hB : ¬(⟨n + 1, hn⟩ : Fin cfg0.N).val % 11 = 0 := by dsimp only; omega
    exact (outsAt0_2_B m c ⟨n + 1, hn⟩ hB).trans (carried c n (Nat.lt_of_succ_lt hn))

/-- The output block of every grid point, from that point's blocks and the first point's `x · lora_a`. -/
theorem out_eq (c : Dev nD) (t : Fin cfg0.N) : (outsAt0 m c t.val t.isLt).1 =
    k0_pay579 (iblk m c 0 t) (weights (iblk m c 1 t) (iblk m c 2 t)) (k0_pay1 (iblk m c 0 ⟨0, by rw [show cfg0.N = 11 from N_0]; decide⟩) (iblk m c 3 ⟨0, by rw [show cfg0.N = 11 from N_0]; decide⟩)) (iblk m c 4 t) := by
  have hN : cfg0.N = 11 := N_0
  by_cases h : t.val % 11 = 0
  · have ht : t = ⟨0, by omega⟩ := Fin.ext (by have := t.isLt; show t.val = 0; omega)
    rw [outsAt0_1_A m c t h, ht]
  · rw [outsAt0_1_B m c t h, carried]

/-- The product `x · lora_a`, at an index. -/
theorem xa_apply (x : Vec Ideal S2048x1280 .bf16) (la : Vec Ideal S1280x16 .bf16) (r : Fin 2048) (j : Fin 16) :
    k0_pay1 (F := Ideal) x la (ix2 r j) = ∑ k : Fin 1280, (x (ix2 r k) : EReal) * la (ix2 k j) := by
  unfold k0_pay1
  pointwise

/-- A grid point's `y`, at an index: a row of `x` times a column of the weights, plus twice a row of `x · lora_a` times a column
    of `lora_b`. -/
theorem y_apply (x : Vec Ideal S2048x1280 .bf16) (w : Vec Ideal S1280x256 .bf16) (xa : Vec Ideal S2048x16 .bf16) (lb : Vec Ideal S16x256 .bf16)
    (r : Fin 2048) (q : Fin 256) :
    k0_pay579 (F := Ideal) x w xa lb (ix2 r q)
      = ∑ k : Fin 1280, (x (ix2 r k) : EReal) * w (ix2 k q) + Ideal.ofBits .f32 0x40000000#32 * ∑ j : Fin 16, (xa (ix2 r j) : EReal) * lb (ix2 j q) := by
  unfold k0_pay579
  pointwise

/-- The output block of grid point `t` at row `r` and column `q` is the result's entry at row `r` and column `256 t + q`. -/
theorem out_apply (c : Dev nD) (t : Fin cfg0.N) (r : Fin 2048) (q : Fin 256) (o : Fin 2816) (ho : o.val = 256 * t.val + q.val) :
    ((outsAt0 m c t.val t.isLt).1 : S2048x256.Idx → EReal) (ix2 r q)
      = entry (m ((c : Thread nD τ).loc main_arg0)) (m ((c : Thread nD τ).loc main_arg1)) (m ((c : Thread nD τ).loc main_arg2))
          (m ((c : Thread nD τ).loc main_arg3)) (m ((c : Thread nD τ).loc main_arg4)) r o := by
  rw [out_eq, y_apply]
  unfold entry
  refine congrArg₂ (· + ·) (Finset.sum_congr rfl fun k _ => ?_) (congrArg _ (Finset.sum_congr rfl fun j _ => ?_))
  · rw [weights_apply, blk_x, blk_w m c t k _ ⟨o.val / 2, by omega⟩ (by show o.val / 2 = 128 * t.val + q.val / 2; omega),
      blk_am m c t _ q o ho, show q.val % 2 = o.val % 2 by omega]
  · rw [xa_apply, blk_lb m c t j q o ho]
    exact congrArg (· * _) (Finset.sum_congr rfl fun k _ => by rw [blk_x, blk_la])

/-- The result array after the eleven grid points: the blocks they write cover it. -/
theorem final (c : Dev nD) : (dats m 0 c).arrAt 5 cfg0.N = fun i : S2048x2816.Idx =>
    entry (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  obtain ⟨e0, e1, e2, e3, e4, e5⟩ := index_eq t
  obtain ⟨r, q, rfl⟩ : ∃ (r : Fin 2048) (q : Fin 256), y = ix2 r q := ⟨y 0, y 1, by funext a; fin_cases a <;> rfl⟩
  have hr : (win0_5.blk t).view.emb (ix2 r q) 0 = r := by
    apply Fin.ext
    blk_simp [e5]
  have hq : ((win0_5.blk t).view.emb (ix2 r q) 1).val = 256 * t.val + q.val := by
    blk_simp [e5]
    omega
  rw [hr]
  exact out_apply m c t r q _ hq

end

end Cert.KernelIdeal.Value

end
-- ==== Proof.Reference.lean ====
/-
  What the reference's result array holds, entry by entry: the same formula as the kernel's.
-/
module

public import proofs.«01_k».proof.Proof.Tile
public import proofs.«01_k».proof.Proof.Gen.ReferenceIdeal.Run

@[expose] public section

noncomputable section

open Idealize.ShloMosaic Idealize.ShloMosaic.TcCoe Idealize.SL.Sem

namespace Cert.Nf4

/-- Testing a bit of the low nibble of a byte widened to 32 bits is reading that bit of the byte. -/
theorem testLow (w : BitVec 8) :
    IntOp.cmpi .ne (IntOp.andi (IntOp.andi (w.setWidth 32) 15#32) 1#32) 0#32 = BitVec.ofBool (w.getLsbD 0)
    ∧ IntOp.cmpi .ne (IntOp.andi (IntOp.andi (w.setWidth 32) 15#32) 2#32) 0#32 = BitVec.ofBool (w.getLsbD 1)
    ∧ IntOp.cmpi .ne (IntOp.andi (IntOp.andi (w.setWidth 32) 15#32) 4#32) 0#32 = BitVec.ofBool (w.getLsbD 2)
    ∧ IntOp.cmpi .ne (IntOp.andi (IntOp.andi (w.setWidth 32) 15#32) 8#32) 0#32 = BitVec.ofBool (w.getLsbD 3) := by
  revert w; decide +kernel

/-- Testing a bit of a widened byte shifted right by four is reading a bit of the byte's high nibble. -/
theorem testHigh (w : BitVec 8) :
    IntOp.cmpi .ne (IntOp.andi (IntOp.shrsi .host (w.setWidth 32) 4#32) 1#32) 0#32 = BitVec.ofBool (w.getLsbD 4)
    ∧ IntOp.cmpi .ne (IntOp.andi (IntOp.shrsi .host (w.setWidth 32) 4#32) 2#32) 0#32 = BitVec.ofBool (w.getLsbD 5)
    ∧ IntOp.cmpi .ne (IntOp.andi (IntOp.shrsi .host (w.setWidth 32) 4#32) 4#32) 0#32 = BitVec.ofBool (w.getLsbD 6)
    ∧ IntOp.cmpi .ne (IntOp.andi (IntOp.shrsi .host (w.setWidth 32) 4#32) 8#32) 0#32 = BitVec.ofBool (w.getLsbD 7) := by
  revert w; decide +kernel

end Cert.Nf4

namespace Cert.ReferenceIdeal.Value

open Cert.ReferenceIdeal Cert.ReferenceIdeal.Gen

section
variable {F : FTy → Type} [FloatOps F]

/-- A 32-bit integer at every position. -/
def fill (k : BitVec 32) : Vec F S1280x1408 .i32 := broadcastInDim S1280x1408 ![] bcast_S_S1280x1408 (constantI S_ 32 k)

/-- Whether bit `k` (a power of two) of each code is set. -/
def bitOf (q : Vec F S1280x1408 .i32) (k : BitVec 32) : Vec F S1280x1408 .i1 := cmpi .ne (andi q (fill (F := F) k)) (fill (F := F) 0#32)

/-- One table constant at every position. -/
def level (b : BitVec 16) : Vec F S1280x1408 .bf16 := broadcastInDim S1280x1408 ![] bcast_S_S1280x1408 (constant S_ .bf16 b)

/-- The table values of the codes `q`: the tree of selections over the four bits. -/
def table (q : Vec F S1280x1408 .i32) : Vec F S1280x1408 .bf16 :=
  select (bitOf q 8#32)
    (select (bitOf q 4#32)
      (select (bitOf q 2#32)
        (select (bitOf q 1#32) (level 0x3F80#16) (level 0x3F39#16))
        (select (bitOf q 1#32) (level 0x3F10#16) (level 0x3EE2#16)))
      (select (bitOf q 2#32)
        (select (bitOf q 1#32) (level 0x3EAD#16) (level 0x3E7C#16))
        (select (bitOf q 1#32) (level 0x3E25#16) (level 0x3DA3#16))))
    (select (bitOf q 4#32)
      (select (bitOf q 2#32)
        (select (bitOf q 1#32) (level 0x0000#16) (level 0xBDBA#16))
        (select (bitOf q 1#32) (level 0xBE3D#16) (level 0xBE92#16)))
      (select (bitOf q 2#32)
        (select (bitOf q 1#32) (level 0xBECA#16) (level 0xBF06#16))
        (select (bitOf q 1#32) (level 0xBF32#16) (level 0xBF80#16))))

/-- Table values times the scales of their columns, one scale per 64 rows. -/
def scaled (v : Vec F S1280x1408 .bf16) (s : Vec F S20x1408 .bf16) : Vec F S1280x1408 .bf16 :=
  shapeCast S1280x1408 (mulf (shapeCast S20x64x1408 v shapeCasts_S1280x1408_S20x64x1408)
    (broadcastInDim S20x64x1408 ![0, 1, 2] bcast_S20x1x1408_S20x64x1408_0_1_2 (broadcastInDim S20x1x1408 ![0, 2] bcast_S20x1408_S20x1x1408_0_2 s)))
    shapeCasts_S20x64x1408_S1280x1408

/-- The scales of the even columns. -/
def scalesEven (am : Vec F S20x2816 .f32) : Vec F S20x1408 .bf16 :=
  shapeCast S20x1408 (extractStridedSlice S20x1408x1 ![0, 0, 0] (shapeCast S20x1408x2 (truncf .bf16 am bitsLt_bf16_f32) shapeCasts_S20x2816_S20x1408x2)
    slices_S20x1408x2_S20x1408x1_0_0_0) shapeCasts_S20x1408x1_S20x1408

/-- The scales of the odd columns. -/
def scalesOdd (am : Vec F S20x2816 .f32) : Vec F S20x1408 .bf16 :=
  shapeCast S20x1408 (extractStridedSlice S20x1408x1 ![0, 0, 1] (shapeCast S20x1408x2 (truncf .bf16 am bitsLt_bf16_f32) shapeCasts_S20x2816_S20x1408x2)
    slices_S20x1408x2_S20x1408x1_0_0_1) shapeCasts_S20x1408x1_S20x1408

/-- The codes in the low nibbles. -/
def low (w : Vec F S1280x1408 .i8) : Vec F S1280x1408 .i32 := andi (extui 32 w natLt_8_32) (fill (F := F) 15#32)

/-- The codes in the high nibbles. -/
def high (w : Vec F S1280x1408 .i8) : Vec F S1280x1408 .i32 := Host.shrsi (extui 32 w natLt_8_32) (fill (F := F) 4#32)

/-- The product of `x` with the two halves of the weights, the columns of the halves alternating. -/
def base (x : Vec F S8x256x1280 .bf16) (we wo : Vec F S1280x1408 .bf16) : Vec F S8x256x2816 .f32 :=
  shapeCast S8x256x2816 (concatenate S8x256x1408x2 3
    [⟨S8x256x1408x1, (broadcastInDim S8x256x1408x1 ![0, 1, 2] bcast_S8x256x1408_S8x256x1408x1_0_1_2
        (Host.dotGeneral dot_S8x256x1280_S1280x1408_S8x256x1408_2_0_01_1_n_n none x we : Vec F S8x256x1408 .f32))⟩,
     ⟨S8x256x1408x1, (broadcastInDim S8x256x1408x1 ![0, 1, 2] bcast_S8x256x1408_S8x256x1408x1_0_1_2
        (Host.dotGeneral dot_S8x256x1280_S1280x1408_S8x256x1408_2_0_01_1_n_n none x wo : Vec F S8x256x1408 .f32))⟩]
    concatenates_S8x256x1408x1_S8x256x1408x1_S8x256x1408x2_d3) shapeCasts_S8x256x1408x2_S8x256x2816

/-- Twice the low-rank product. -/
def lowRank (x : Vec F S8x256x1280 .bf16) (la : Vec F S1280x16 .bf16) (lb : Vec F S16x2816 .bf16) : Vec F S8x256x2816 .f32 :=
  mulf (broadcastInDim S8x256x2816 ![] bcast_S_S8x256x2816 (constant S_ .f32 0x40000000#32))
    (Host.dotGeneral dot_S8x256x16_S16x2816_S8x256x2816_2_0_01_1_n_n none
      (truncf .bf16 (Host.dotGeneral dot_S8x256x1280_S1280x16_S8x256x16_2_0_01_1_n_n none x la : Vec F S8x256x16 .f32) bitsLt_bf16_f32) lb)

/-- The sum of the two products, with its first two axes merged. -/
def merged (a b : Vec F S8x256x2816 .f32) : Vec F S2048x2816 .bf16 :=
  shapeCast S2048x2816 (truncf .bf16 (addf a b) bitsLt_bf16_f32) shapeCasts_S8x256x2816_S2048x2816

/-- The reference's result is the composition of the pieces above. -/
theorem res_eq (m : (ℓ : Loc nD τ sig) → Buf (Elt F) ℓ) (c : Dev nD) :
    res_main_v96 m c = merged
      (base (m ((c.tc : Thread nD τ).loc main_arg0))
        (scaled (table (low (m ((c.tc : Thread nD τ).loc main_arg1)))) (scalesEven (m ((c.tc : Thread nD τ).loc main_arg2))))
        (scaled (table (high (m ((c.tc : Thread nD τ).loc main_arg1)))) (scalesOdd (m ((c.tc : Thread nD τ).loc main_arg2)))))
      (lowRank (m ((c.tc : Thread nD τ).loc main_arg0)) (m ((c.tc : Thread nD τ).loc main_arg3)) (m ((c.tc : Thread nD τ).loc main_arg4))) := by
  unfold res_main_v96
  rfl
end

/-- The table value at an index, from the four bits of the code there. -/
theorem table_apply (q : Vec Ideal S1280x1408 .i32) (k : Fin 1280) (j : Fin 1408) :
    table (F := Ideal) q (ix2 k j) = Cert.Nf4.value (IntOp.cmpi .ne (IntOp.andi (q (ix2 k j)) 1#32) 0#32) (IntOp.cmpi .ne (IntOp.andi (q (ix2 k j)) 2#32) 0#32)
      (IntOp.cmpi .ne (IntOp.andi (q (ix2 k j)) 4#32) 0#32) (IntOp.cmpi .ne (IntOp.andi (q (ix2 k j)) 8#32) 0#32) := rfl

/-- The table values of the low codes are those of the low nibbles. -/
theorem low_apply (w : Vec Ideal S1280x1408 .i8) (k : Fin 1280) (j : Fin 1408) :
    table (F := Ideal) (low (F := Ideal) w) (ix2 k j) = Cert.Nf4.nibble (w (ix2 k j)) 0 := by
  rw [table_apply]
  obtain ⟨h0, h1, h2, h3⟩ := Cert.Nf4.testLow (w (ix2 k j))
  have e : low (F := Ideal) w (ix2 k j) = IntOp.andi (BitVec.setWidth 32 (w (ix2 k j))) 15#32 := rfl
  rw [e, h0, h1, h2, h3]
  rfl

/-- The table values of the high codes are those of the high nibbles. -/
theorem high_apply (w : Vec Ideal S1280x1408 .i8) (k : Fin 1280) (j : Fin 1408) :
    table (F := Ideal) (high (F := Ideal) w) (ix2 k j) = Cert.Nf4.nibble (w (ix2 k j)) 1 := by
  rw [table_apply]
  obtain ⟨h0, h1, h2, h3⟩ := Cert.Nf4.testHigh (w (ix2 k j))
  have e : high (F := Ideal) w (ix2 k j) = IntOp.shrsi .host (BitVec.setWidth 32 (w (ix2 k j))) 4#32 := rfl
  rw [e, h0, h1, h2, h3]
  rfl

/-- A scaled table value: row `k` takes the scale of block `k / 64`. -/
theorem scaled_apply (v : Vec Ideal S1280x1408 .bf16) (s : Vec Ideal S20x1408 .bf16) (k : Fin 1280) (j : Fin 1408) :
    (scaled (F := Ideal) v s (ix2 k j) : EReal) = v (ix2 k j) * s (ix2 (⟨k.val / 64, by omega⟩ : Fin 20) j) := by
  unfold scaled
  pointwise

/-- Column `j` of the even scales is column `2 j` of the scales. -/
theorem scalesEven_apply (am : Vec Ideal S20x2816 .f32) (b : Fin 20) (j : Fin 1408) (o : Fin 2816) (ho : o.val = 2 * j.val) :
    (scalesEven (F := Ideal) am (ix2 b j) : EReal) = am (ix2 b o) := by
  rw [show o = ⟨j.val * 2, by have := j.isLt; omega⟩ from Fin.ext (by dsimp only; omega)]
  unfold scalesEven
  pointwise

/-- Column `j` of the odd scales is column `2 j + 1` of the scales. -/
theorem scalesOdd_apply (am : Vec Ideal S20x2816 .f32) (b : Fin 20) (j : Fin 1408) (o : Fin 2816) (ho : o.val = 2 * j.val + 1) :
    (scalesOdd (F := Ideal) am (ix2 b j) : EReal) = am (ix2 b o) := by
  rw [show o = ⟨j.val * 2 + 1, by have := j.isLt; omega⟩ from Fin.ext (by dsimp only; omega)]
  unfold scalesOdd
  pointwise

/-- The base product at an index: column `o` takes column `o / 2` of the even half or of the odd half, by the parity of `o`. -/
theorem base_apply (x : Vec Ideal S8x256x1280 .bf16) (we wo : Vec Ideal S1280x1408 .bf16) (b : Fin 8) (s : Fin 256) (o : Fin 2816) :
    (base (F := Ideal) x we wo (ix3 b s o) : EReal) = ∑ k : Fin 1280, x (ix3 b s k)
      * (if o.val % 2 = 0 then we (ix2 k (⟨o.val / 2, by omega⟩ : Fin 1408)) else wo (ix2 k (⟨o.val / 2, by omega⟩ : Fin 1408)) : EReal) := by
  unfold base
  pointwise
  by_cases h : o.val % 2 = 0
  · rw [dif_pos (by omega)]
    exact Finset.sum_congr rfl fun k _ => by rw [if_pos h]
  · rw [dif_neg (by omega)]
    exact Finset.sum_congr rfl fun k _ => by rw [if_neg h]

/-- Twice the low-rank product, at an index. -/
theorem lowRank_apply (x : Vec Ideal S8x256x1280 .bf16) (la : Vec Ideal S1280x16 .bf16) (lb : Vec Ideal S16x2816 .bf16)
    (b : Fin 8) (s : Fin 256) (o : Fin 2816) :
    (lowRank (F := Ideal) x la lb (ix3 b s o) : EReal)
      = Ideal.ofBits .f32 0x40000000#32 * ∑ j : Fin 16, (∑ k : Fin 1280, x (ix3 b s k) * la (ix2 k j)) * lb (ix2 j o) := by
  unfold lowRank
  pointwise

/-- The merged sum at an index. -/
theorem merged_apply (y z : Vec Ideal S8x256x2816 .f32) (r : Fin 2048) (o : Fin 2816) :
    (merged (F := Ideal) y z (ix2 r o) : EReal)
      = y (ix3 (⟨r.val / 256, by omega⟩ : Fin 8) (⟨r.val % 256, by omega⟩ : Fin 256) o)
        + z (ix3 (⟨r.val / 256, by omega⟩ : Fin 8) (⟨r.val % 256, by omega⟩ : Fin 256) o) := by
  unfold merged
  pointwise

/-- The reference's result, entry by entry. -/
theorem res_apply (m : (ℓ : Loc nD τ sig) → Buf (Elt Ideal) ℓ) (c : Dev nD) (r : Fin 2048) (o : Fin 2816) :
    (res_main_v96 m c : S2048x2816.Idx → EReal) (ix2 r o)
      = Cert.KernelIdeal.Value.entry (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) r o := by
  rw [res_eq, merged_apply, base_apply, lowRank_apply]
  unfold Cert.KernelIdeal.Value.entry
  refine congrArg (· + _) (Finset.sum_congr rfl fun k _ => congrArg _ ?_)
  have ho := o.isLt
  rcases Nat.mod_two_eq_zero_or_one o.val with h | h
  · rw [if_pos h, scaled_apply, low_apply, scalesEven_apply _ _ _ o (by show o.val = 2 * (o.val / 2); omega), h]
  · rw [if_neg (by omega), scaled_apply, high_apply, scalesOdd_apply _ _ _ o (by show o.val = 2 * (o.val / 2) + 1; omega), h]

end Cert.ReferenceIdeal.Value

end
-- ==== Proof.lean ====
/-
  The proof of `Cert.Claim`. Both programs' results are read entry by entry: `Proof/Block.lean`, `Proof/Codes.lean` and
  `Proof/Tile.lean` for the kernel, `Proof/Reference.lean` for the reference. Both are the same formula,
  `Cert.KernelIdeal.Value.entry`, of the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Block
public import proofs.«01_k».proof.Proof.Codes
public import proofs.«01_k».proof.Proof.Tile
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel terminates without fault, leaves its arguments unchanged and every semaphore counter at zero. -/
theorem frame_kernel : Cert.quiescent_Kernel (hKernel := Cert.Kernel.Gen.facts) := fun m ρ _ => Cert.Kernel.Gen.frame m ρ

/-- The same of the kernel read over the extended reals. -/
theorem frame_kernelIdeal : Cert.quiescent_KernelIdeal (hKernelIdeal := Cert.KernelIdeal.Gen.facts) := fun m ρ _ =>
  Cert.KernelIdeal.Gen.frame m ρ

/-- The same of the reference read over the extended reals; it has no semaphore. -/
theorem frame_referenceIdeal : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- From equal arguments the kernel and the reference end with equal results over the extended reals. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => (Cert.KernelIdeal.Gen.dats m 0 c).arrAt 5 Cert.KernelIdeal.cfg0.N, Cert.KernelIdeal.Value.run_blocks m ρ, ?_⟩
  refine (θ_run _ _ _).mono (fun r h c => ⟨(h c).1.trans ?_, (h c).2⟩) (Cert.ReferenceIdeal.Value.run (F := Ideal) m' ρ')
  obtain ⟨h0, h1, h2, h3, h4⟩ := hagree c
  refine Eq.trans ?_ (Cert.KernelIdeal.Value.final m c).symm
  rw [← h0, ← h1, ← h2, ← h3, ← h4]
  funext i
  exact (congrArg _ (eq_ix2 i)).trans (Cert.ReferenceIdeal.Value.res_apply m' c (i 0) (i 1))

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
